-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x64x64 : Shape := ⟨4, ![16, 128, 64, 64]⟩
abbrev S16x64x64x128 : Shape := ⟨4, ![16, 64, 64, 128]⟩
abbrev S2x32768x128 : Shape := ⟨3, ![2, 32768, 128]⟩
abbrev S1x128 : Shape := ⟨2, ![1, 128]⟩
abbrev S128x128 : Shape := ⟨2, ![128, 128]⟩
abbrev S1x16384x128 : Shape := ⟨3, ![1, 16384, 128]⟩
abbrev S16384x128 : Shape := ⟨2, ![16384, 128]⟩
abbrev S128 : Shape := ⟨1, ![128]⟩

abbrev nBuf : Space → Nat
  | .hbm => 12
  | .vmem => 9
  | .smem => 0
  | _ => 0

abbrev bufTy : (tb : Table) → Fin (tcTables nBuf tb) → BufTy
  | .hbm, ⟨0, _⟩ => ⟨S16x128x64x64, .f32⟩
  | .hbm, ⟨1, _⟩ => ⟨S16x64x64x128, .f32⟩
  | .hbm, ⟨2, _⟩ => ⟨S2x32768x128, .f32⟩
  | .hbm, ⟨3, _⟩ => ⟨S1x128, .f32⟩
  | .hbm, ⟨4, _⟩ => ⟨S128x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .local _ .vmem, ⟨0, _⟩ => ⟨S1x16384x128, .f32⟩
  | .local _ .vmem, ⟨1, _⟩ => ⟨S1x16384x128, .f32⟩
  | .local _ .vmem, ⟨2, _⟩ => ⟨S1x16384x128, .f32⟩
  | .local _ .vmem, ⟨3, _⟩ => ⟨S1x16384x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | _, _ => ⟨S16x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev main_v2_4 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_12 : BitVec 32 := 0#32
  let v21 : BitVec 1 := Scalar.cmpi .ne v20 c0_i32_12
  v21

def k0_cond2 (i : grid0.Coords) : BitVec 1 :=
  let arg0 : BitVec 32 := BitVec.ofNat 32 (i 0).val
  let c0_i32_13 : BitVec 32 := 0#32
  let v22 : BitVec 1 := Scalar.cmpi .ne arg0 c0_i32_13
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x128x64x64 : Shape := ⟨4, ![16, 128, 64, 64]⟩
abbrev S16x64x64x128 : Shape := ⟨4, ![16, 64, 64, 128]⟩
abbrev S_ : Shape := ⟨0, ![]⟩
abbrev S128 : Shape := ⟨1, ![128]⟩
abbrev S128x128 : Shape := ⟨2, ![128, 128]⟩

abbrev nBuf : Space → Nat
  | .hbm => 26
  | .vmem => 0
  | .smem => 0
  | _ => 0

abbrev bufTy : (tb : Table) → Fin (tcTables nBuf tb) → BufTy
  | .hbm, ⟨0, _⟩ => ⟨S16x128x64x64, .f32⟩
  | .hbm, ⟨1, _⟩ => ⟨S16x64x64x128, .f32⟩
  | .hbm, ⟨2, _⟩ => ⟨S16x64x64x128, .i1⟩
  | .hbm, ⟨3, _⟩ => ⟨S_, .f32⟩
  | .hbm, ⟨4, _⟩ => ⟨S_, .f32⟩
  | .hbm, ⟨5, _⟩ => ⟨S16x64x64x128, .f32⟩
  | .hbm, ⟨6, _⟩ => ⟨S16x64x64x128, .f32⟩
  | .hbm, ⟨7, _⟩ => ⟨S_, .f32⟩
  | .hbm, ⟨8, _⟩ => ⟨S128, .f32⟩
  | .hbm, ⟨9, _⟩ => ⟨S128x128, .f32⟩
  | .hbm, ⟨10, _⟩ => ⟨S16x64x64x128, .i1⟩
  | .hbm, ⟨11, _⟩ => ⟨S16x64x64x128, .f32⟩
  | .hbm, ⟨12, _⟩ => ⟨S_, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S16x64x64x128, .f32⟩
  | .hbm, ⟨17, _⟩ => ⟨S16x64x64x128, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S16x64x64x128, .f32⟩
  | .hbm, ⟨23, _⟩ => ⟨S16x64x64x128, .f32⟩
  | .hbm, ⟨24, _⟩ => ⟨S_, .f32⟩
  | .hbm, ⟨25, _⟩ => ⟨S128, .f32⟩
  | _, _ => ⟨S16x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_cst_4 : Ref sig .tc := ⟨.hbm, 20, rfl⟩
abbrev main_call2_v0 : Ref sig .tc := ⟨.hbm, 21, rfl⟩
abbrev main_call2_v1 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩

abbrev nD : Nat := 1
abbrev τ : Topo := Topo.v7x

variable {F : FTy → Type} [FloatOps F]
-- ==== Proof.Body.lean ====
/-
  The kernel's body, at any float type. On whole staging buffers it does one of two things, by whether the grid
  coordinate is zero. At the first point it stores the block's own statistics (`body_first`). At the other point it
  combines each statistic with what the buffer held and leaves the count alone (`body_second`).
-/
module

public import proofs.«01_k».proof.Proof.Gen.KernelIdeal.Frame
public import proofs.«01_k».proof.Proof.Gen.KernelIdeal.Skeleton
public import Idealize.ShloMosaic.Lib.VecWindow
public import Idealize.ShloMosaic.Lib.WholeRead

@[expose] public section

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A load of a whole buffer at its own sizes, the buffer held at the contents that read `x`, is `x`. -/
theorem load_whole {s : Shape} {e : EltTy} {a : Memref sig .tc .vmem s e} (h : a.IsWhole) (x : Vec F s e) {off : Fin s.rank → ℕ}
    (inb : ∀ b, off b + s.size b ≤ s.size b) :
    a.view.readAt (Elt F) (Rect.unit off s.size inb).toLoadRect (h.unread x) = x := by
  rw [View.readAt_full]; exact h.read_unread x

set_option maxHeartbeats 1000000 in
/-- The body where the first condition holds and the second fails: from any contents of the five output buffers it
    leaves the inputs' as they were and in the outputs' the statistics of the two input blocks and the constant count. -/
theorem body_first (c : Dev nD) (i : grid0.Coords)
    (a1 : Memref sig .tc .vmem S1x16384x128 .f32) (h1 : a1.IsWhole) (a2 : Memref sig .tc .vmem S1x16384x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc1 : k0_cond1 i = 1#1) (hc2 : ¬ k0_cond2 i = 1#1)
    (x y : Vec F S1x16384x128 .f32) (E : Set ℕ) (K : PUnit → sProp 𝕄) :
    iprop(owns (c : Thread nD τ) a1 fullShare x ∗ owns (c : Thread nD τ) a2 fullShare y
        ∗ (∃ d, owns (c : Thread nD τ) a3 fullShare d) ∗ (∃ d, owns (c : Thread nD τ) a4 fullShare d)
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x ∗ owns (c : Thread nD τ) a2 fullShare y
            ∗ owns (c : Thread nD τ) a3 fullShare (k0_pay3 x y) ∗ owns (c : Thread nD τ) a4 fullShare (k0_pay6 x y)
            ∗ owns (c : Thread nD τ) a5 fullShare (k0_pay7 (F := F)) ∗ owns (c : Thread nD τ) a6 fullShare (k0_pay4 x y)
            ∗ owns (c : Thread nD τ) a7 fullShare (k0_pay5 x y)) -∗ K ⟨⟩))
      ⊢ wp frame (wpE (defs₀ (F := F)) Variants.none c none) E
          (cc0__stats_kernel i a1 h1 a2 h2 a3 h3 a4 h4 a5 h5 a6 h6 a7 h7) K := by
  simp only [cc0__stats_kernel_eq_skeleton]; unfold cc0__stats_kernel_skel
  unfold owns
  iintro ⟨⟨%f1, %e1, H1⟩, ⟨%f2, %e2, H2⟩, ⟨%d3, %f3, %e3, H3⟩, ⟨%d4, %f4, %e4, H4⟩, ⟨%d5, %f5, %e5, H5⟩, ⟨%d6, %f6, %e6, H6⟩, ⟨%d7, %f7, %e7, H7⟩, Hk⟩
  obtain rfl := h1.eq_unread e1; obtain rfl := h2.eq_unread e2
  sl_exec (disch := first | sl_exact hc1 | sl_exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro; rw [View.read_writes_full]; exact congrArg₂ k0_pay3 (load_whole h1 x _) (load_whole h2 y _)
  isplitl [H4]
  · iexists _; isplitr
    swap; · iexact H4
    ipureintro; rw [View.read_writes_full]; exact congrArg₂ k0_pay6 (load_whole h1 x _) (load_whole h2 y _)
  isplitl [H5]
  · iexists _; isplitr
    swap; · iexact H5
    ipureintro; rw [View.read_writes_full]
  isplitl [H6]
  · iexists _; isplitr
    swap; · iexact H6
    ipureintro; rw [View.read_writes_full]; exact congrArg₂ k0_pay4 (load_whole h1 x _) (load_whole h2 y _)
  iexists _; isplitr
  swap; · iexact H7
  ipureintro; rw [View.read_writes_full]; exact congrArg₂ k0_pay5 (load_whole h1 x _) (load_whole h2 y _)

set_option maxHeartbeats 1000000 in
/-- The body where the first condition fails and the second holds: each output buffer but the count's is left at its
    old contents combined with the statistics of the two input blocks; the count's buffer is left as it was. -/
theorem body_second (c : Dev nD) (i : grid0.Coords)
    (a1 : Memref sig .tc .vmem S1x16384x128 .f32) (h1 : a1.IsWhole) (a2 : Memref sig .tc .vmem S1x16384x128 .f32) (h2 : a2.IsWhole)
    (a3 : Memref sig .tc .vmem S1x128 .f32) (h3 : a3.IsWhole) (a4 : Memref sig .tc .vmem S128x128 .f32) (h4 : a4.IsWhole)
    (a5 : Memref sig .tc .vmem S1x128 .f32) (h5 : a5.IsWhole) (a6 : Memref sig .tc .vmem S1x128 .f32) (h6 : a6.IsWhole)
    (a7 : Memref sig .tc .vmem S1x128 .f32) (h7 : a7.IsWhole) (hc1 : ¬ k0_cond1 i = 1#1) (hc2 : k0_cond2 i = 1#1)
    (x y : Vec F S1x16384x128 .f32) (s n lo hi : Vec F S1x128 .f32) (q : Vec F S128x128 .f32) (E : Set ℕ) (K : PUnit → sProp 𝕄) :
    iprop(owns (c : Thread nD τ) a1 fullShare x ∗ owns (c : Thread nD τ) a2 fullShare y
        ∗ owns (c : Thread nD τ) a3 fullShare s ∗ owns (c : Thread nD τ) a4 fullShare q
        ∗ owns (c : Thread nD τ) a5 fullShare n ∗ owns (c : Thread nD τ) a6 fullShare lo
        ∗ owns (c : Thread nD τ) a7 fullShare hi
        ∗ (iprop(owns (c : Thread nD τ) a1 fullShare x ∗ owns (c : Thread nD τ) a2 fullShare y
            ∗ owns (c : Thread nD τ) a3 fullShare (k0_pay8 x y s) ∗ owns (c : Thread nD τ) a4 fullShare (k0_pay11 x y q)
            ∗ owns (c : Thread nD τ) a5 fullShare n ∗ owns (c : Thread nD τ) a6 fullShare (k0_pay9 x y lo)
            ∗ owns (c : Thread nD τ) a7 fullShare (k0_pay10 x y hi)) -∗ K ⟨⟩))
      ⊢ wp frame (wpE (defs₀ (F := F)) Variants.none c none) E
          (cc0__stats_kernel i a1 h1 a2 h2 a3 h3 a4 h4 a5 h5 a6 h6 a7 h7) K := by
  simp only [cc0__stats_kernel_eq_skeleton]; unfold cc0__stats_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  obtain rfl := h1.eq_unread e1; obtain rfl := h2.eq_unread e2; obtain rfl := h3.eq_unread e3; obtain rfl := h4.eq_unread e4
  obtain rfl := h6.eq_unread e6; obtain rfl := h7.eq_unread e7
  sl_exec (disch := first | sl_exact hc1 | sl_exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro; rw [View.read_writes_full]; exact congr (congrArg₂ k0_pay8 (load_whole h1 x _) (load_whole h2 y _)) (load_whole h3 s _)
  isplitl [H4]
  · iexists _; isplitr
    swap; · iexact H4
    ipureintro; rw [View.read_writes_full]; exact congr (congrArg₂ k0_pay11 (load_whole h1 x _) (load_whole h2 y _)) (load_whole h4 q _)
  isplitl [H5]
  · iexists _; isplitr
    · ipureintro; exact e5
    iexact H5
  isplitl [H6]
  · iexists _; isplitr
    swap; · iexact H6
    ipureintro; rw [View.read_writes_full]; exact congr (congrArg₂ k0_pay9 (load_whole h1 x _) (load_whole h2 y _)) (load_whole h6 lo _)
  iexists _; isplitr
  swap; · iexact H7
  ipureintro; rw [View.read_writes_full]; exact congr (congrArg₂ k0_pay10 (load_whole h1 x _) (load_whole h2 y _)) (load_whole h7 hi _)

end Cert.KernelIdeal.Stats

end
-- ==== Proof.Run.lean ====
/-
  The idealized kernel's run, at any float type: what each output window's buffer holds after each of the two grid
  points, the pipeline's body obligation from the two triples of the body, and the launch. From the run come the
  kernel's frame and the contents of its five result arrays.
-/
module

public import proofs.«01_k».proof.Proof.Body
public import Idealize.ShloMosaic.Lib.Pipeline.TableIdle
public import Idealize.ShloMosaic.Lib.Pipeline.ValueKit
public import Idealize.ShloMosaic.Lib.Claim

@[expose] public section

set_option maxRecDepth 16384

noncomputable section

namespace Cert.KernelIdeal.Stats

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows' buffers hold -/

/-- The sum's buffer after a point: the first block's sums, then the second block's added to them. -/
def sumAt (c : Dev nD) (t : Fin cfg0.N) : Vec F S1x128 .f32 :=
  if t.val = 0 then k0_pay3 (iblk m c 0 t) (iblk m c 1 t)
  else k0_pay8 (iblk m c 0 t) (iblk m c 1 t) (k0_pay3 (iblk m c 0 t0_0) (iblk m c 1 t0_0))

/-- The product matrix's buffer after a point. -/
def gramAt (c : Dev nD) (t : Fin cfg0.N) : Vec F S128x128 .f32 :=
  if t.val = 0 then k0_pay6 (iblk m c 0 t) (iblk m c 1 t)
  else k0_pay11 (iblk m c 0 t) (iblk m c 1 t) (k0_pay6 (iblk m c 0 t0_0) (iblk m c 1 t0_0))

/-- The minimum's buffer after a point. -/
def minAt (c : Dev nD) (t : Fin cfg0.N) : Vec F S1x128 .f32 :=
  if t.val = 0 then k0_pay4 (iblk m c 0 t) (iblk m c 1 t)
  else k0_pay9 (iblk m c 0 t) (iblk m c 1 t) (k0_pay4 (iblk m c 0 t0_0) (iblk m c 1 t0_0))

/-- The maximum's buffer after a point. -/
def maxAt (c : Dev nD) (t : Fin cfg0.N) : Vec F S1x128 .f32 :=
  if t.val = 0 then k0_pay5 (iblk m c 0 t) (iblk m c 1 t)
  else k0_pay10 (iblk m c 0 t) (iblk m c 1 t) (k0_pay5 (iblk m c 0 t0_0) (iblk m c 1 t0_0))

/-- The pipeline's proof data on core `c`: the arrays as the region finds them; after the body at a point each input's
    buffer at its block, each output's at the contents above, the count's at the constant; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => sumAt m c t
    | ⟨3, _⟩ => gramAt m c t
    | ⟨4, _⟩ => k0_pay7 (F := F)
    | ⟨5, _⟩ => minAt m c t
    | ⟨6, _⟩ => maxAt m c t
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- The first input's buffer is left at its block. -/
theorem after_x (c : Dev nD) (t : Fin cfg0.N) : (dats m 0 c).after 0 t = iblk m c 0 t := by dsimp only [dats]
/-- The second input's buffer is left at its block. -/
theorem after_y (c : Dev nD) (t : Fin cfg0.N) : (dats m 0 c).after 1 t = iblk m c 1 t := by dsimp only [dats]
/-- What the sum's buffer is left at. -/
theorem after_sum (c : Dev nD) (t : Fin cfg0.N) : (dats m 0 c).after 2 t = sumAt m c t := by dsimp only [dats]
/-- What the product matrix's buffer is left at. -/
theorem after_gram (c : Dev nD) (t : Fin cfg0.N) : (dats m 0 c).after 3 t = gramAt m c t := by dsimp only [dats]
/-- The count's buffer is left at the constant. -/
theorem after_count (c : Dev nD) (t : Fin cfg0.N) : (dats m 0 c).after 4 t = k0_pay7 (F := F) := by dsimp only [dats]
/-- What the minimum's buffer is left at. -/
theorem after_min (c : Dev nD) (t : Fin cfg0.N) : (dats m 0 c).after 5 t = minAt m c t := by dsimp only [dats]
/-- What the maximum's buffer is left at. -/
theorem after_max (c : Dev nD) (t : Fin cfg0.N) : (dats m 0 c).after 6 t = maxAt m c t := by dsimp only [dats]

/-- The first input's buffer holds its block when the body starts. -/
theorem before_x (c : Dev nD) (t : Fin cfg0.N) (d) : (dats m 0 c).before 0 t d = iblk m c 0 t :=
  before0_0_of m (dats m 0 c) (A_eq m c 0) (after_x m c) t d
/-- The second input's buffer holds its block when the body starts. -/
theorem before_y (c : Dev nD) (t : Fin cfg0.N) (d) : (dats m 0 c).before 1 t d = iblk m c 1 t :=
  before0_1_of m (dats m 0 c) (A_eq m c 1) (after_y m c) t d

/-! ## The second point finds the outputs as the first left them -/

/-- Every window but the count's is stored into at both points. -/
theorem live : ∀ (w : Fin 7) (t : Fin cfg0.N), w ≠ 4 → cfg0.idle w (grid0.coords t) = false := by decide +kernel

/-- Window by window, the second point's buffer of an output holds what the first point stored. -/
theorem not_fresh : ∀ w : Fin 7, 2 ≤ w → cfg0.fresh w t0_1.val = false := by decide +kernel

/-- Where a window is idle past the first point it is the count's, whose contents do not change. -/
theorem carry (c : Dev nD) (w : Fin 7) : ∀ (t : Fin cfg0.N) (_ : t.val ≠ 0), cfg0.idle w (grid0.coords t) = true →
    cfg0.fresh w t.val = false → (dats m 0 c).after w t = (dats m 0 c).after w ⟨t.val - 1, by omega⟩ := by
  intro t _ hi _
  by_cases hw : w = 4
  · subst hw; rw [after_count, after_count]
  · rw [live w t hw] at hi; exact absurd hi Bool.false_ne_true

/-- At the second point an output's buffer holds what the first point left. -/
theorem before_second (c : Dev nD) (w : Fin 7) (hw : 2 ≤ w) (ho : (cfg0.win w).isOut = true) (d) :
    (dats m 0 c).before w t0_1 d = (dats m 0 c).after w t0_0 := by
  refine (Dat.before_out_traj (dats m 0 c) w ho (fun _ _ => by fin_cases w <;> rfl) (carry m c w) t0_1.val t0_1 rfl d).trans ?_
  rw [if_neg (by rw [not_fresh w hw]; exact Bool.false_ne_true)]
  rfl

/-! ## The body obligation -/

/-- The first condition at the first point. -/
theorem first_cond : k0_cond1 (grid0.coords t0_0) = 1#1 ∧ ¬ k0_cond2 (grid0.coords t0_0) = 1#1 := by decide +kernel
/-- The second condition at the second point. -/
theorem second_cond : ¬ k0_cond1 (grid0.coords t0_1) = 1#1 ∧ k0_cond2 (grid0.coords t0_1) = 1#1 := by decide +kernel

/-- The body's precondition at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- The body's postcondition at a point, window by window. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

/-- A window stored into at a point must be left at the proof data's contents. -/
theorem leaves_live (c : Dev nD) (w : Fin 7) (t : Fin cfg0.N) (hw : w ≠ 4) :
    (dats m 0 c).leavesExact w t = owns (c : Thread nD τ) ((cfg0.win w).stage (cfg0.slots t w)) fullShare ((dats m 0 c).after w t) := by
  unfold Dat.leavesExact; rw [live w t hw]

/-- The count's window must be left at the proof data's contents too: stored into at the first point, written back at the second. -/
theorem leaves_count (c : Dev nD) (t : Fin cfg0.N) :
    (dats m 0 c).leavesExact 4 t = owns (c : Thread nD τ) (st0_4 t) fullShare (k0_pay7 (F := F)) := by
  have h : cfg0.idle 4 (grid0.coords t) = false ∨ (cfg0.win 4).flush t = true := by
    revert t; decide +kernel
  unfold Dat.leavesExact
  rcases h with h | h
  · rw [h, after_count]
  · rw [h, after_count]; cases cfg0.idle 4 (cfg0.grid.coords t) <;> rfl

set_option maxHeartbeats 1000000 in
/-- The body's triple at the first point. -/
theorem sound_first (c : Dev nD) :
    bodyPre m c t0_0 ⊢ wp frame (wpE (defs₀ (F := F)) Variants.none c none) Set.univ (bodyAt0 t0_0) (fun _ => bodyPost m c t0_0) := by
  unfold bodyPre bodyPost bodyAt0
  simp only [before_x, before_y]
  rw [show (dats m 0 c).Φ (Fin.succ t0_0) = (dats m 0 c).Φ (Fin.castSucc t0_0) from rfl,
    show (dats m 0 c).owesAt () (Fin.succ t0_0) = (dats m 0 c).owesAt () (Fin.castSucc t0_0) from rfl,
    leaves_live m c 0 t0_0 (by decide), leaves_live m c 1 t0_0 (by decide), leaves_live m c 2 t0_0 (by decide),
    leaves_live m c 3 t0_0 (by decide), leaves_count, leaves_live m c 5 t0_0 (by decide), leaves_live m c 6 t0_0 (by decide),
    after_x, after_y, after_sum, after_gram, after_min, after_max,
    show sumAt m c t0_0 = k0_pay3 (iblk m c 0 t0_0) (iblk m c 1 t0_0) from rfl,
    show gramAt m c t0_0 = k0_pay6 (iblk m c 0 t0_0) (iblk m c 1 t0_0) from rfl,
    show minAt m c t0_0 = k0_pay4 (iblk m c 0 t0_0) (iblk m c 1 t0_0) from rfl,
    show maxAt m c t0_0 = k0_pay5 (iblk m c 0 t0_0) (iblk m c 1 t0_0) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply body_first c (grid0.coords t0_0) _ _ _ _ _ _ _ _ _ _ _ _ _ _ first_cond.1 first_cond.2 (iblk m c 0 t0_0) (iblk m c 1 t0_0) Set.univ _
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
/-- The body's triple at the second point. -/
theorem sound_second (c : Dev nD) :
    bodyPre m c t0_1 ⊢ wp frame (wpE (defs₀ (F := F)) Variants.none c none) Set.univ (bodyAt0 t0_1) (fun _ => bodyPost m c t0_1) := by
  unfold bodyPre bodyPost bodyAt0
  simp only [before_x, before_y, before_second m c 2 (by decide) rfl, before_second m c 3 (by decide) rfl,
    before_second m c 4 (by decide) rfl, before_second m c 5 (by decide) rfl, before_second m c 6 (by decide) rfl]
  rw [show (dats m 0 c).Φ (Fin.succ t0_1) = (dats m 0 c).Φ (Fin.castSucc t0_1) from rfl,
    show (dats m 0 c).owesAt () (Fin.succ t0_1) = (dats m 0 c).owesAt () (Fin.castSucc t0_1) from rfl,
    leaves_live m c 0 t0_1 (by decide), leaves_live m c 1 t0_1 (by decide), leaves_live m c 2 t0_1 (by decide),
    leaves_live m c 3 t0_1 (by decide), leaves_count, leaves_live m c 5 t0_1 (by decide), leaves_live m c 6 t0_1 (by decide)]
  simp only [after_x, after_y, after_sum, after_gram, after_min, after_max, after_count]
  rw [show sumAt m c t0_1 = k0_pay8 (iblk m c 0 t0_1) (iblk m c 1 t0_1) (sumAt m c t0_0) from rfl,
    show gramAt m c t0_1 = k0_pay11 (iblk m c 0 t0_1) (iblk m c 1 t0_1) (gramAt m c t0_0) from rfl,
    show minAt m c t0_1 = k0_pay9 (iblk m c 0 t0_1) (iblk m c 1 t0_1) (minAt m c t0_0) from rfl,
    show maxAt m c t0_1 = k0_pay10 (iblk m c 0 t0_1) (iblk m c 1 t0_1) (maxAt m c t0_0) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply body_second c (grid0.coords t0_1) _ _ _ _ _ _ _ _ _ _ _ _ _ _ second_cond.1 second_cond.2 (iblk m c 0 t0_1) (iblk m c 1 t0_1)
    (sumAt m c t0_0) (k0_pay7 (F := F)) (minAt m c t0_0) (maxAt m c t0_0) (gramAt m c t0_0) Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point's buffers is the body at that point. -/
theorem body_row (t : Fin cfg0.N) : defs₀ (F := F) .tc cfg0.body (cfg0.bodyArgs t (cfg0.slots t)) = bodyAt0 t := by
  unfold defs₀; rw [Defs.onTc_tc]

/-- The pipeline's body obligation: the two triples. -/
theorem obligation (c : Dev nD) : BodyObligation (dats (F := F) m 0 c) (defs₀ (F := F)) Variants.none () Set.univ := fun t => by
  rw [bigSep_W0, bigSep_W0, body_row]
  have h : bodyPre m c t ⊢ wp frame (wpE (defs₀ (F := F)) Variants.none c none) Set.univ (bodyAt0 t) (fun _ => bodyPost m c t) := by
    rcases fin_N0 t with rfl | rfl
    · exact sound_first m c
    · exact sound_second m c
  exact triple_restated h rfl .rfl fun _ => .rfl

/-! ## The launch -/

set_option backward.isDefEq.respectTransparency.types false in
/-- Every weakly fair execution of the program terminates, with the pipeline's arrays at what the proof data say, the
    host operations after it run on those, every other buffer as the region found it, and every counter at zero. -/
theorem launch : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

/-- The launch without the counters. -/
theorem run : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (launch m ρ)

/-- The frame: the argument ends unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run m ρ)) ((θ_run defs _ _).mono (fun _ h => h.2) (launch m ρ))

end Cert.KernelIdeal.Stats

end
-- ==== Proof.Same.lean ====
/-
  The kernel's frame. The kernel and its idealization are the same text under two names, and the idealized kernel's frame
  (Proof/Run.lean) is proved at any float type; at the machine's words it is the kernel's, once the two tables of bodies
  are seen to be one.
-/
module

public import proofs.«01_k».proof.Defs
public import proofs.«01_k».proof.Proof.Gen.Kernel
public import proofs.«01_k».proof.Proof.Run

@[expose] public section

set_option maxRecDepth 16384

noncomputable section

namespace Cert.Kernel.Stats

open Idealize.ShloMosaic Idealize.SL.Sem

/-- The two body tables are one: at the one label they call the same body with the same buffers. -/
theorem table_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- So the two programs' definitions are one. -/
theorem defs_eq : Cert.Kernel.defs (F := Bits) = Cert.KernelIdeal.defs (F := Bits) :=
  congrArg (Pipeline.defs Cert.Kernel.pcfgs) table_eq

/-- The kernel's frame: the argument ends unchanged and every counter ends at zero. -/
theorem frame : Cert.quiescent_Kernel := by
  intro m g _
  rw [defs_eq]
  exact Cert.KernelIdeal.Stats.frame (F := Bits) m g

end Cert.Kernel.Stats

end
-- ==== Proof.Blocks.lean ====
/-
  The order in which the two programs combine an array's entries. For one feature the reference combines the entries at
  all batch, row and column coordinates; the kernel cuts them into four blocks of 16384 — half `p` of the rows, block `t`
  of the half — combines each block, then the two halves' blocks of each `t`, then the two results. For an operation that
  is commutative and associative and has a neutral element these are the same value. Last, the five statistics of an
  array, stated in the blocked order: the value that both programs are proved to compute.
-/
module

public import Idealize.ShloMosaic.Lib.Pointwise

@[expose] public section

noncomputable section

namespace Cert.Blocks

open Idealize.ShloMosaic

/-- The batch coordinate of entry `j` of block `t` of half `p`: entries are numbered with the batch slowest. -/
def batch (p t : Fin 2) (j : Fin 16384) : Fin 16 := ⟨p.val * 8 + (t.val * 16384 + j.val) / 4096, by omega⟩
/-- Its row coordinate. -/
def row (_p t : Fin 2) (j : Fin 16384) : Fin 64 := ⟨(t.val * 16384 + j.val) / 64 % 64, by omega⟩
/-- Its column coordinate. -/
def col (_p t : Fin 2) (j : Fin 16384) : Fin 64 := ⟨(t.val * 16384 + j.val) % 64, by omega⟩

variable {α ι : Type}

/-- Equal operations from equal values combine a family to equal values. -/
theorem fold_congr (op op' : α → α → α) [Std.Commutative op] [Std.Associative op] [Std.Commutative op'] [Std.Associative op']
    (h : op = op') (s : Finset ι) (z z' : α) (hz : z = z') (g : ι → α) : s.fold op z g = s.fold op' z' g := by
  subst h hz; rfl

/-- Block `t` of half `p` combined, from `z`. -/
def block (op : α → α → α) [Std.Commutative op] [Std.Associative op] (z : α) (f : Fin 16 → Fin 64 → Fin 64 → α)
    (p t : Fin 2) : α :=
  (Finset.univ : Finset (Fin 16384)).fold op z fun j => f (batch p t j) (row p t j) (col p t j)

/-- The four blocks combined in the kernel's order. -/
def blocked (op : α → α → α) [Std.Commutative op] [Std.Associative op] (z : α) (f : Fin 16 → Fin 64 → Fin 64 → α) : α :=
  op (op (block op z f 0 0) (block op z f 1 0)) (op (block op z f 0 1) (block op z f 1 1))

/-- Four families of 16384 entries, each the entries of one block, combined in the kernel's order. -/
theorem four_blocks (op : α → α → α) [Std.Commutative op] [Std.Associative op] (z : α) (f : Fin 16 → Fin 64 → Fin 64 → α)
    (x0 y0 x1 y1 : Fin 16384 → α) (hx0 : ∀ j, x0 j = f (batch 0 0 j) (row 0 0 j) (col 0 0 j))
    (hy0 : ∀ j, y0 j = f (batch 1 0 j) (row 1 0 j) (col 1 0 j)) (hx1 : ∀ j, x1 j = f (batch 0 1 j) (row 0 1 j) (col 0 1 j))
    (hy1 : ∀ j, y1 j = f (batch 1 1 j) (row 1 1 j) (col 1 1 j)) :
    op (op (Finset.univ.fold op z x0) (Finset.univ.fold op z y0)) (op (Finset.univ.fold op z x1) (Finset.univ.fold op z y1))
      = blocked op z f := by
  rw [funext hx0, funext hy0, funext hx1, funext hy1]; rfl

/-- Two numberings with the same coordinates are the same. -/
theorem coords_inj (p t p' t' : Fin 2) (j j' : Fin 16384) (hb : batch p t j = batch p' t' j') (hr : row p t j = row p' t' j')
    (hc : col p t j = col p' t' j') : p = p' ∧ t = t' ∧ j = j' := by
  have hb := congrArg Fin.val hb
  have hr := congrArg Fin.val hr
  have hc := congrArg Fin.val hc
  simp only [batch, row, col] at hb hr hc
  refine ⟨Fin.ext ?_, Fin.ext ?_, Fin.ext ?_⟩ <;> omega

/-- Every triple of coordinates is some entry's. -/
theorem coords_surj (b : Fin 16) (r c : Fin 64) :
    ∃ p t j, batch p t j = b ∧ row p t j = r ∧ col p t j = c := by
  refine ⟨⟨b.val / 8, by omega⟩, ⟨(b.val % 8 * 4096 + r.val * 64 + c.val) / 16384, by omega⟩,
    ⟨(b.val % 8 * 4096 + r.val * 64 + c.val) % 16384, by omega⟩, Fin.ext ?_, Fin.ext ?_, Fin.ext ?_⟩ <;>
    simp only [batch, row, col] <;> omega

/-- A set of indices numbered by the triples of coordinates, combined in any order, is combined in the kernel's order. -/
theorem fold_eq_blocked (op : α → α → α) [hc : Std.Commutative op] [ha : Std.Associative op] (z : α) (hz : ∀ a, op z a = a)
    (s : Finset ι) (spot : Fin 16 → Fin 64 → Fin 64 → ι) (hs : ∀ i, i ∈ s ↔ ∃ b r c, spot b r c = i)
    (hinj : ∀ b r c b' r' c', spot b r c = spot b' r' c' → b = b' ∧ r = r' ∧ c = c') (g : ι → α) :
    s.fold op z g = blocked op z fun b r c => g (spot b r c) := by
  letI : CommMonoid α :=
    { mul := op, one := z, mul_assoc := ha.assoc, mul_comm := hc.comm, one_mul := hz, mul_one := fun a => (hc.comm a z).trans (hz a) }
  have h : ∏ q : Fin 2 × Fin 2 × Fin 16384, g (spot (batch q.1 q.2.1 q.2.2) (row q.1 q.2.1 q.2.2) (col q.1 q.2.1 q.2.2))
      = ∏ i ∈ s, g i := by
    refine Finset.prod_bij (fun q _ => spot (batch q.1 q.2.1 q.2.2) (row q.1 q.2.1 q.2.2) (col q.1 q.2.1 q.2.2))
      (fun q _ => (hs _).2 ⟨_, _, _, rfl⟩) ?_ ?_ fun _ _ => rfl
    · intro q _ q' _ e
      obtain ⟨h1, h2, h3⟩ := hinj _ _ _ _ _ _ e
      obtain ⟨h1, h2, h3⟩ := coords_inj _ _ _ _ _ _ h1 h2 h3
      exact Prod.ext h1 (Prod.ext h2 h3)
    · intro i hi
      obtain ⟨b, r, c, rfl⟩ := (hs i).1 hi
      obtain ⟨p, t, j, rfl, rfl, rfl⟩ := coords_surj b r c
      exact ⟨(p, t, j), Finset.mem_univ _, rfl⟩
  have h' : s.fold op z g = ∏ i ∈ s, g i := rfl
  rw [h', ← h, Fintype.prod_prod_type, Fin.prod_univ_two, Fintype.prod_prod_type, Fintype.prod_prod_type, Fin.prod_univ_two,
    Fin.prod_univ_two]
  exact mul_mul_mul_comm _ _ _ _

/-! ## The five statistics -/

/-- The word of the positive infinity is the largest extended real. -/
theorem top_word : Ideal.ofBits .f32 0x7F800000#32 = ⊤ := by simp [Ideal.ofBits, Ideal.ieee]
/-- The word of the negative infinity is the least extended real. -/
theorem bot_word : Ideal.ofBits .f32 0xFF800000#32 = ⊥ := by simp [Ideal.ofBits, Ideal.ieee]
/-- The word of 65536. -/
theorem count_word : Ideal.ofBits .f32 0x47800000#32 = ((65536 : ℝ) : EReal) := by
  simp [Ideal.ofBits, Ideal.ieee, -EReal.coe_mul]; norm_num

variable (x : FVec Ideal ⟨4, ![16, 128, 64, 64]⟩ .f32)

/-- The sum of feature `k`'s entries. -/
def total (k : Fin 128) : EReal := blocked (· + ·) 0 fun b r c => x (ix4 b k r c)
/-- The sum of the products of features `k` and `l`. -/
def product (k l : Fin 128) : EReal := blocked (· + ·) 0 fun b r c => x (ix4 b k r c) * x (ix4 b l r c)
/-- The least of feature `k`'s entries. -/
def least (k : Fin 128) : EReal := blocked min ⊤ fun b r c => x (ix4 b k r c)
/-- The greatest of feature `k`'s entries. -/
def greatest (k : Fin 128) : EReal := blocked max ⊥ fun b r c => x (ix4 b k r c)

/-- One for each entry sums to their number. -/
theorem count_eq : blocked (fun a b : EReal => a + b) 0 (fun _ _ _ => 1) = ((65536 : ℝ) : EReal) := by
  have h : ∀ p t : Fin 2, block (fun a b : EReal => a + b) 0 (fun _ _ _ => 1) p t = ((16384 : ℝ) : EReal) := fun p t => by
    show ∑ _j : Fin 16384, (1 : EReal) = _
    rw [Finset.sum_const, Finset.card_univ, Fintype.card_fin, nsmul_one]
    rfl
  rw [blocked, h, h, h, h, ← EReal.coe_add, ← EReal.coe_add]
  norm_num

end Cert.Blocks

end
-- ==== Proof.Stored.lean ====
/-
  The vectors that the idealized kernel's body stores, at an index, at the extended reals: the sums, the products, the
  minima and the maxima of the two blocks loaded, what is added to or combined with the contents held, and the count.
-/
module

public import proofs.«01_k».proof.Proof.Gen.KernelIdeal.Skeleton
public import proofs.«01_k».proof.Proof.Blocks

@[expose] public section

set_option maxRecDepth 16384

noncomputable section

namespace Cert.KernelIdeal.Stats

open Idealize.ShloMosaic Cert.KernelIdeal Cert.KernelIdeal.Gen

variable (x y : Vec Ideal S1x16384x128 .f32) (k l : Fin 128)

/-- The sums of two blocks. -/
theorem sum_at : k0_pay3 (F := Ideal) x y (ix2 0 k) = ∑ j, x (ix3 0 j k) + ∑ j, y (ix3 0 j k) := by
  pointwise [k0_pay3, k0_pay1, k0_pay2]

/-- The first block as a matrix, at an index. -/
theorem first_at (j : Fin 16384) : k0_pay1 (F := Ideal) x (ix2 j k) = x (ix3 0 j k) := by
  pointwise [k0_pay1]

/-- The second block as a matrix, at an index. -/
theorem second_at (j : Fin 16384) : k0_pay2 (F := Ideal) y (ix2 j k) = y (ix3 0 j k) := by
  pointwise [k0_pay2]

/-- A vector as a row, at an index. -/
theorem row_at (v : FVec Ideal S128 .f32) : shapeCast S1x128 v shapeCasts_S128_S1x128 (ix2 0 k) = v (ix1 k) := by
  pointwise

/-- The minimum of each column of a block. -/
theorem min_column (src : FVec Ideal S16384x128 .f32) (hφ) (hacc) :
    multiReduction (F := Ideal) FKind.minimumf [0] S128 src (0x7F800000#32) reduces_S16384x128_S128 hφ hacc (ix1 k)
      = (Finset.univ : Finset (Fin 16384)).fold min ⊤ fun j => src (ix2 j k) := by
  refine (multiReduction_minimumf_eq_fold _ _ _ _ _ _).trans ?_
  refine (Shape.Reduces.fold_fiber_r2_a0 (n0 := 16384) (n1 := 128) reduces_S16384x128_S128 (ix1 k)
    (FloatOps.minimumf (F := Ideal) (φ := .f32)) _ src).trans ?_
  exact Blocks.fold_congr _ _ rfl _ _ _ Blocks.top_word _

/-- The minimum of two vectors at an index. -/
theorem minimumf_at (a b : FVec Ideal S128 .f32) (j : S128.Idx) : minimumf a b j = min (a j) (b j) := rfl

/-- The minima of two blocks. -/
theorem min_at : k0_pay4 (F := Ideal) x y (ix2 0 k)
    = min (Finset.univ.fold min ⊤ fun j => x (ix3 0 j k)) (Finset.univ.fold min ⊤ fun j => y (ix3 0 j k)) := by
  unfold k0_pay4
  rw [row_at, minimumf_at, ← funext (first_at x k), ← funext (second_at y k)]
  exact congrArg₂ min (min_column k (k0_pay1 x) _ _) (min_column k (k0_pay2 y) _ _)

/-- The maximum of each column of a block. -/
theorem max_column (src : FVec Ideal S16384x128 .f32) (hφ) (hacc) :
    multiReduction (F := Ideal) FKind.maximumf [0] S128 src (0xFF800000#32) reduces_S16384x128_S128 hφ hacc (ix1 k)
      = (Finset.univ : Finset (Fin 16384)).fold max ⊥ fun j => src (ix2 j k) := by
  refine (multiReduction_maximumf_eq_fold _ _ _ _ _ _).trans ?_
  refine (Shape.Reduces.fold_fiber_r2_a0 (n0 := 16384) (n1 := 128) reduces_S16384x128_S128 (ix1 k)
    (FloatOps.maximumf (F := Ideal) (φ := .f32)) _ src).trans ?_
  exact Blocks.fold_congr _ _ rfl _ _ _ Blocks.bot_word _

/-- The maximum of two vectors at an index. -/
theorem maximumf_at (a b : FVec Ideal S128 .f32) (j : S128.Idx) : maximumf a b j = max (a j) (b j) := rfl

/-- The maxima of two blocks. -/
theorem max_at : k0_pay5 (F := Ideal) x y (ix2 0 k)
    = max (Finset.univ.fold max ⊥ fun j => x (ix3 0 j k)) (Finset.univ.fold max ⊥ fun j => y (ix3 0 j k)) := by
  unfold k0_pay5
  rw [row_at, maximumf_at, ← funext (first_at x k), ← funext (second_at y k)]
  exact congrArg₂ max (max_column k (k0_pay1 x) _ _) (max_column k (k0_pay2 y) _ _)

/-- The products of two blocks. -/
theorem gram_at : k0_pay6 (F := Ideal) x y (ix2 k l)
    = ∑ j, x (ix3 0 j k) * x (ix3 0 j l) + ∑ j, y (ix3 0 j k) * y (ix3 0 j l) := by
  pointwise [k0_pay6, k0_pay1, k0_pay2]

/-- The sums added to what is held. -/
theorem sum_next (s : Vec Ideal S1x128 .f32) : k0_pay8 (F := Ideal) x y s (ix2 0 k) = s (ix2 0 k) + k0_pay3 x y (ix2 0 k) := by
  pointwise [k0_pay8]

/-- The minimum with what is held. -/
theorem min_next (s : Vec Ideal S1x128 .f32) : k0_pay9 (F := Ideal) x y s (ix2 0 k) = min (s (ix2 0 k)) (k0_pay4 x y (ix2 0 k)) := by
  pointwise [k0_pay9]

/-- The maximum with what is held. -/
theorem max_next (s : Vec Ideal S1x128 .f32) : k0_pay10 (F := Ideal) x y s (ix2 0 k) = max (s (ix2 0 k)) (k0_pay5 x y (ix2 0 k)) := by
  pointwise [k0_pay10]

/-- The products added to what is held. -/
theorem gram_next (s : Vec Ideal S128x128 .f32) : k0_pay11 (F := Ideal) x y s (ix2 k l) = s (ix2 k l) + k0_pay6 x y (ix2 k l) := by
  pointwise [k0_pay11]

/-- The count's constant. -/
theorem count_at : k0_pay7 (F := Ideal) (ix2 0 k) = ((65536 : ℝ) : EReal) := by
  rw [← Blocks.count_word]
  pointwise [k0_pay7]

end Cert.KernelIdeal.Stats

end
-- ==== Proof.Value.lean ====
/-
  The idealized kernel's five result arrays at the extended reals: each input block's entry as an entry of the argument,
  each output's buffer after the second point, and each array after the run as the statistic of Blocks.lean.
-/
module

public import proofs.«01_k».proof.Proof.Run
public import proofs.«01_k».proof.Proof.Stored
public import Idealize.ShloMosaic.Lib.StableHlo.RunRead

@[expose] public section

set_option maxRecDepth 16384

noncomputable section

namespace Cert.KernelIdeal.Stats

open Idealize.ShloMosaic Idealize.ShloMosaic.TcCoe Idealize.SL.Sem Cert.KernelIdeal Cert.KernelIdeal.Gen

variable (m : (ℓ : Loc nD τ sig) → Buf (Elt Ideal) ℓ) (c : Dev nD)

/-- The argument's contents at the launch. -/
abbrev arg : FVec Ideal S16x128x64x64 .f32 := m ((c.tc : Thread nD τ).loc main_arg0)

/-! ## The input blocks -/

/-- The first input's block at a point: half 0, block `t`. -/
theorem index_x : ∀ t, win0_0.index t = ![0, (t : Fin 2).val, 0] := by decide +kernel
/-- The second input's block at a point: half 1, block `t`. -/
theorem index_y : ∀ t, win0_1.index t = ![1, (t : Fin 2).val, 0] := by decide +kernel

/-- The array that the kernel reads, at an index: the argument's entry numbered by the half and the row of the half. -/
theorem entry (p : Fin 2) (q : Fin 32768) (k : Fin 128) : (V m c main_v1 : Vec Ideal S2x32768x128 .f32) (ix3 p q k)
    = arg m c (ix4 ⟨p.val * 8 + q.val / 4096, by omega⟩ k ⟨q.val / 64 % 64, by omega⟩ ⟨q.val % 64, by omega⟩) := by
  unfold V V0
  after_reads_simp
  pointwise

/-- The first input's block at an index. -/
theorem block_x (t : Fin 2) (j : Fin 16384) (k : Fin 128) : (iblk m c 0 t : Vec Ideal S1x16384x128 .f32) (ix3 0 j k)
    = arg m c (ix4 (Blocks.batch 0 t j) k (Blocks.row 0 t j) (Blocks.col 0 t j)) := by
  refine Eq.trans ?_ (entry m c 0 ⟨t.val * 16384 + j.val, by omega⟩ k)
  blk_ext [iblk, index_x t]

/-- The second input's block at an index. -/
theorem block_y (t : Fin 2) (j : Fin 16384) (k : Fin 128) : (iblk m c 1 t : Vec Ideal S1x16384x128 .f32) (ix3 0 j k)
    = arg m c (ix4 (Blocks.batch 1 t j) k (Blocks.row 1 t j) (Blocks.col 1 t j)) := by
  refine Eq.trans ?_ (entry m c 1 ⟨t.val * 16384 + j.val, by omega⟩ k)
  blk_ext [iblk, index_y t]

/-! ## What is held after the second point -/

/-- The sum's buffer after the second point. -/
theorem sumAt_last (k : Fin 128) : sumAt m c t0_1 (ix2 0 k) = Blocks.total (arg m c) k := by
  rw [show sumAt m c t0_1 = k0_pay8 (iblk m c 0 t0_1) (iblk m c 1 t0_1) (k0_pay3 (iblk m c 0 t0_0) (iblk m c 1 t0_0)) from rfl,
    sum_next, sum_at, sum_at]
  exact Blocks.four_blocks (fun a b : EReal => a + b) 0 (fun b r d => arg m c (ix4 b k r d)) _ _ _ _ (fun j => block_x m c 0 j k) (fun j => block_y m c 0 j k)
    (fun j => block_x m c 1 j k) fun j => block_y m c 1 j k

/-- The minimum's buffer after the second point. -/
theorem minAt_last (k : Fin 128) : minAt m c t0_1 (ix2 0 k) = Blocks.least (arg m c) k := by
  rw [show minAt m c t0_1 = k0_pay9 (iblk m c 0 t0_1) (iblk m c 1 t0_1) (k0_pay4 (iblk m c 0 t0_0) (iblk m c 1 t0_0)) from rfl,
    min_next, min_at, min_at]
  exact Blocks.four_blocks min ⊤ (fun b r d => arg m c (ix4 b k r d)) _ _ _ _ (fun j => block_x m c 0 j k) (fun j => block_y m c 0 j k)
    (fun j => block_x m c 1 j k) fun j => block_y m c 1 j k

/-- The maximum's buffer after the second point. -/
theorem maxAt_last (k : Fin 128) : maxAt m c t0_1 (ix2 0 k) = Blocks.greatest (arg m c) k := by
  rw [show maxAt m c t0_1 = k0_pay10 (iblk m c 0 t0_1) (iblk m c 1 t0_1) (k0_pay5 (iblk m c 0 t0_0) (iblk m c 1 t0_0)) from rfl,
    max_next, max_at, max_at]
  exact Blocks.four_blocks max ⊥ (fun b r d => arg m c (ix4 b k r d)) _ _ _ _ (fun j => block_x m c 0 j k) (fun j => block_y m c 0 j k)
    (fun j => block_x m c 1 j k) fun j => block_y m c 1 j k

/-- The products' buffer after the second point. -/
theorem gramAt_last (k l : Fin 128) : gramAt m c t0_1 (ix2 k l) = Blocks.product (arg m c) k l := by
  rw [show gramAt m c t0_1 = k0_pay11 (iblk m c 0 t0_1) (iblk m c 1 t0_1) (k0_pay6 (iblk m c 0 t0_0) (iblk m c 1 t0_0)) from rfl,
    gram_next, gram_at, gram_at]
  exact Blocks.four_blocks (fun a b : EReal => a + b) 0 (fun b r d => arg m c (ix4 b k r d) * arg m c (ix4 b l r d)) _ _ _ _
    (fun j => congrArg₂ (fun a b : EReal => a * b) (block_x m c 0 j k) (block_x m c 0 j l))
    (fun j => congrArg₂ (fun a b : EReal => a * b) (block_y m c 0 j k) (block_y m c 0 j l))
    (fun j => congrArg₂ (fun a b : EReal => a * b) (block_x m c 1 j k) (block_x m c 1 j l))
    fun j => congrArg₂ (fun a b : EReal => a * b) (block_y m c 1 j k) (block_y m c 1 j l)

/-! ## The result arrays -/

/-- A row vector of 128 values. -/
def rowOf (f : Fin 128 → EReal) : Vec Ideal S1x128 .f32 := fun j => f (j 1)

/-- A row vector is given by its entries. -/
theorem eq_rowOf (v : Vec Ideal S1x128 .f32) (f : Fin 128 → EReal) (h : ∀ k, v (ix2 0 k) = f k) : v = rowOf f := by
  funext j
  idx_vars j
  obtain rfl : j0 = 0 := Subsingleton.elim _ _
  exact h j1

/-- A square matrix of 128 rows. -/
def matOf (f : Fin 128 → Fin 128 → EReal) : Vec Ideal S128x128 .f32 := fun j => f (j 0) (j 1)

/-- A square matrix is given by its entries. -/
theorem eq_matOf (v : Vec Ideal S128x128 .f32) (f : Fin 128 → Fin 128 → EReal) (h : ∀ k l, v (ix2 k l) = f k l) : v = matOf f := by
  funext j
  idx_vars j
  exact h _ _

/-- The sum's array after the run. -/
theorem sum_array : (dats m 0 c).arrAt 2 (cfgs 0).N = rowOf (Blocks.total (arg m c)) := by
  refine (dats m 0 c).arrAt_eq_of_after_last 2 t0_1 (by decide +kernel) _ fun j => ?_
  rw [after_sum, eq_rowOf _ _ (sumAt_last m c)]
  rfl

/-- The products' array after the run. -/
theorem gram_array : (dats m 0 c).arrAt 3 (cfgs 0).N = matOf (Blocks.product (arg m c)) := by
  refine (dats m 0 c).arrAt_eq_of_after_last 3 t0_1 (by decide +kernel) _ fun j => ?_
  rw [after_gram, eq_matOf _ _ (gramAt_last m c)]
  rfl

/-- The count's array after the run. -/
theorem count_array : (dats m 0 c).arrAt 4 (cfgs 0).N = rowOf fun _ => ((65536 : ℝ) : EReal) := by
  refine (dats m 0 c).arrAt_eq_of_after_last 4 t0_1 (by decide +kernel) _ fun j => ?_
  rw [after_count, eq_rowOf _ _ count_at]
  rfl

/-- The minimum's array after the run. -/
theorem min_array : (dats m 0 c).arrAt 5 (cfgs 0).N = rowOf (Blocks.least (arg m c)) := by
  refine (dats m 0 c).arrAt_eq_of_after_last 5 t0_1 (by decide +kernel) _ fun j => ?_
  rw [after_min, eq_rowOf _ _ (minAt_last m c)]
  rfl

/-- The maximum's array after the run. -/
theorem max_array : (dats m 0 c).arrAt 6 (cfgs 0).N = rowOf (Blocks.greatest (arg m c)) := by
  refine (dats m 0 c).arrAt_eq_of_after_last 6 t0_1 (by decide +kernel) _ fun j => ?_
  rw [after_max, eq_rowOf _ _ (maxAt_last m c)]
  rfl

/-! ## The results -/

/-- A vector of 128 values. -/
def vecOf (f : Fin 128 → EReal) : Vec Ideal S128 .f32 := fun j => f (j 0)

/-- A row vector with its leading axis dropped. -/
theorem drop_row (f : Fin 128 → EReal) : shapeCast S128 (rowOf f) shapeCasts_S1x128_S128 = vecOf f := by
  funext j
  pointwise [rowOf, vecOf]

/-- A window's array as the region leaves it. -/
theorem exit_array (w : Fin 7) :
    Pipeline.withArrays (cfgs 0).spec c (V0 m c) (fun w => (dats m 0 c).arrAt w (cfgs 0).N) (Proc.devRef .tc (Pipeline.arrRef spec0 w))
      = (dats m 0 c).arrAt w (cfgs 0).N :=
  (dats m 0 c).withArrays_arrAt launch₀0.sharedIn (V0 m c) (A_eq m c) w

/-- The first result: the sums. -/
theorem tail_sum : Pipeline.afterTail₀ cfgs (dats m) 0 (V0 m) [hostOps1] c main_v3 = vecOf (Blocks.total (arg m c)) := by
  unfold Pipeline.afterTail₀
  after_reads_simp
  erw [exit_array m c 2]
  rw [sum_array]
  exact drop_row _

/-- The third result: the counts. -/
theorem tail_count : Pipeline.afterTail₀ cfgs (dats m) 0 (V0 m) [hostOps1] c main_v4 = vecOf fun _ => ((65536 : ℝ) : EReal) := by
  unfold Pipeline.afterTail₀
  after_reads_simp
  erw [exit_array m c 4]
  rw [count_array]
  exact drop_row _

/-- The fourth result: the minima. -/
theorem tail_min : Pipeline.afterTail₀ cfgs (dats m) 0 (V0 m) [hostOps1] c main_v5 = vecOf (Blocks.least (arg m c)) := by
  unfold Pipeline.afterTail₀
  after_reads_simp
  erw [exit_array m c 5]
  rw [min_array]
  exact drop_row _

/-- The fifth result: the maxima. -/
theorem tail_max : Pipeline.afterTail₀ cfgs (dats m) 0 (V0 m) [hostOps1] c main_v6 = vecOf (Blocks.greatest (arg m c)) := by
  unfold Pipeline.afterTail₀
  after_reads_simp
  erw [exit_array m c 6]
  rw [max_array]
  exact drop_row _

/-- Every weakly fair execution terminates with the five results at the statistics of the argument, the argument unchanged. -/
theorem results (ρ : Dev nD → PrngReg) : θ_run defs (onTc (τ := τ) (main (F := Ideal))) (s₀ m ρ) fun r => ∀ c : Dev nD,
    r.2.mem ((c.tc : Thread nD τ).loc main_v3) = vecOf (Blocks.total (arg m c))
    ∧ r.2.mem ((c.tc : Thread nD τ).loc main_v2_1) = matOf (Blocks.product (arg m c))
    ∧ r.2.mem ((c.tc : Thread nD τ).loc main_v4) = vecOf (fun _ => ((65536 : ℝ) : EReal))
    ∧ r.2.mem ((c.tc : Thread nD τ).loc main_v5) = vecOf (Blocks.least (arg m c))
    ∧ r.2.mem ((c.tc : Thread nD τ).loc main_v6) = vecOf (Blocks.greatest (arg m c))
    ∧ r.2.mem ((c.tc : Thread nD τ).loc main_arg0) = m ((c.tc : Thread nD τ).loc main_arg0) := by
  run_from run m ρ
  · exact tail_sum m c
  · exact gram_array m c
  · exact tail_count m c
  · exact tail_min m c
  · exact tail_max m c
  · exact W_main_arg0 m (dats m) c

end Cert.KernelIdeal.Stats

end
-- ==== Proof.Ref.lean ====
/-
  The idealized reference's run: its operations in a line, each result read back in two steps (the array it reduces, then
  the reduction), and each result at the extended reals as the statistic of Blocks.lean. Over the extended reals no entry
  differs from itself, so the reference's mask is false everywhere: it replaces nothing and counts every entry.
-/
module

public import proofs.«01_k».proof.Proof.Gen.ReferenceIdeal
public import proofs.«01_k».proof.Proof.Blocks
public import Idealize.ShloMosaic.Lib.StableHlo.RunHlo
public import Idealize.ShloMosaic.Lib.StableHlo.RunRead
public import Idealize.ShloMosaic.Lib.Claim

@[expose] public section

set_option maxRecDepth 16384

noncomputable section

namespace Cert.ReferenceIdeal.Stats

open Idealize.ShloMosaic Idealize.ShloMosaic.TcCoe Idealize.SL.Sem Idealize.ShloMosaic.StableHlo
open Cert.ReferenceIdeal Cert.ReferenceIdeal.Gen

/-! ## The run -/

section Run

variable {F : FTy → Type} [FloatOps F]

/-- The argument with its feature axis last: batch, column, row, feature. -/
def swapped (x : FVec F S16x128x64x64 .f32) : FVec F S16x64x64x128 .f32 :=
  transpose S16x64x64x128 [0, 3, 2, 1] x transposes_S16x128x64x64_S16x64x64x128_0_3_2_1

/-- The mask: where an entry differs from itself. -/
def mask (x : FVec F S16x128x64x64 .f32) : Vec F S16x64x64x128 .i1 := cmpf .une (swapped x) (swapped x)

/-- The array with the word `z` put where the mask is set. -/
def filled (z : BitVec 32) (x : FVec F S16x128x64x64 .f32) : FVec F S16x64x64x128 .f32 :=
  select (mask x) (broadcastInDim S16x64x64x128 ![] bcast_S_S16x64x64x128 (constant S_ .f32 z)) (swapped x)

/-- The array that is one where the mask is clear. -/
def counted (x : FVec F S16x128x64x64 .f32) : FVec F S16x64x64x128 .f32 := uitofp .f32 (noti (mask x))

variable (m : (ℓ : Loc nD τ sig) → Buf (Elt F) ℓ) (ρ : Dev nD → PrngReg)

/-- The argument's contents at the launch. -/
abbrev arg (c : Dev nD) : FVec F S16x128x64x64 .f32 := m ((c.tc : Thread nD τ).loc main_arg0)

/-- Every weakly fair execution terminates with each result at the reduction of its array, the argument unchanged. -/
theorem run : θ_run defs (onTc (τ := τ) (main (F := F))) ⟨m, fun _ => 0, ρ⟩ fun r => ∀ c : Dev nD,
    r.2.mem ((c.tc : Thread nD τ).loc main_v3)
        = Host.reduceAdd (filled 0x00000000#32 (arg m c)) (constant S_ .f32 0x00000000#32) reducesTo_S16x64x64x128_S128_d0_1_2 h_S_
    ∧ r.2.mem ((c.tc : Thread nD τ).loc main_v4)
        = Host.dotGeneral dot_S16x64x64x128_S16x64x64x128_S128x128_012_012_3_3_n_n none (filled 0x00000000#32 (arg m c)) (filled 0x00000000#32 (arg m c))
    ∧ r.2.mem ((c.tc : Thread nD τ).loc main_v7)
        = Host.reduceAdd (counted (arg m c)) (constant S_ .f32 0x00000000#32) reducesTo_S16x64x64x128_S128_d0_1_2 h_S_
    ∧ r.2.mem ((c.tc : Thread nD τ).loc main_v9)
        = Host.reduce FloatOps.minimumf (filled 0x7F800000#32 (arg m c)) (constant S_ .f32 0x7F800000#32) reducesTo_S16x64x64x128_S128_d0_1_2 h_S_
    ∧ r.2.mem ((c.tc : Thread nD τ).loc main_v11)
        = Host.reduce FloatOps.maximumf (filled 0xFF800000#32 (arg m c)) (constant S_ .f32 0xFF800000#32) reducesTo_S16x64x64x128_S128_d0_1_2 h_S_
    ∧ r.2.mem ((c.tc : Thread nD τ).loc main_arg0) = m ((c.tc : Thread nD τ).loc main_arg0) := by
  refine (θ_run defs _ _).mono (fun r h c => ⟨(h c main_v3).trans ?_, (h c main_v4).trans ?_, (h c main_v7).trans ?_,
      (h c main_v9).trans ?_, (h c main_v11).trans ?_, (h c main_arg0).trans ?_⟩)
    (run_hlo defs main (by hlo_seq) (by decide) (by decide) (by simp)
      (by intro _ h; (repeat (cases h with | head => rfl | tail _ h => ?_)); exact nomatch h) m ρ)
  · after_reads_simp
    refine congrArg (fun y => Host.reduceAdd y (constant S_ .f32 0x00000000#32) reducesTo_S16x64x64x128_S128_d0_1_2 h_S_) ?_
    unfold filled mask swapped
    simp only [TRef.toBuf, TRef.ofBuf, cast_eq, id]
  · after_reads_simp
    refine congrArg (fun y => Host.dotGeneral dot_S16x64x64x128_S16x64x64x128_S128x128_012_012_3_3_n_n none y y) ?_
    unfold filled mask swapped
    simp only [TRef.toBuf, TRef.ofBuf, cast_eq, id]
  · after_reads_simp
    refine congrArg (fun y => Host.reduceAdd y (constant S_ .f32 0x00000000#32) reducesTo_S16x64x64x128_S128_d0_1_2 h_S_) ?_
    unfold counted mask swapped
    rfl
  · after_reads_simp
    refine congrArg (fun y => Host.reduce FloatOps.minimumf y (constant S_ .f32 0x7F800000#32) reducesTo_S16x64x64x128_S128_d0_1_2 h_S_) ?_
    unfold filled mask swapped
    simp only [TRef.toBuf, TRef.ofBuf, cast_eq, id]
  · after_reads_simp
    refine congrArg (fun y => Host.reduce FloatOps.maximumf y (constant S_ .f32 0xFF800000#32) reducesTo_S16x64x64x128_S128_d0_1_2 h_S_) ?_
    unfold filled mask swapped
    simp only [TRef.toBuf, TRef.ofBuf, cast_eq, id]
  · after_reads_simp

/-- The frame: the argument ends unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2.2.2.2.2, sem_eq_zero_of_no_sems (by decide) r.2⟩) (run m ρ)

end Run

/-! ## The results at the extended reals -/

variable (x : FVec Ideal S16x128x64x64 .f32)

/-- Nothing is replaced: the filled array is the argument with its feature axis last. -/
theorem filled_apply (z : BitVec 32) (b : Fin 16) (c r : Fin 64) (k : Fin 128) :
    filled (F := Ideal) z x (ix4 b c r k) = x (ix4 b k r c) := by
  have h : swapped x (ix4 b c r k) = x (ix4 b k r c) := by pointwise [swapped]
  rw [← h]
  pointwise [filled, mask]
  exact if_neg fun h => h rfl

/-- Every entry is counted once. -/
theorem counted_apply (i : S16x64x64x128.Idx) : counted (F := Ideal) x i = 1 := by
  pointwise [counted, mask]
  simp [FloatOps.uitofp]

/-- The entries reduced to feature `k`. -/
theorem fiber (k : Fin 128) (i : S16x64x64x128.Idx) :
    i ∈ (Finset.univ.filter fun i => (reducesTo_S16x64x64x128_S128_d0_1_2).drop i = ix1 k)
      ↔ ∃ (b : Fin 16) (r c : Fin 64), (ix4 b c r k : S16x64x64x128.Idx) = i := by
  rw [Finset.mem_filter]
  constructor
  · rintro ⟨-, e⟩
    refine ⟨i 0, i 2, i 1, ?_⟩
    funext a; apply Fin.ext
    match a with
    | ⟨0, _⟩ => rfl
    | ⟨1, _⟩ => rfl
    | ⟨2, _⟩ => rfl
    | ⟨3, _⟩ => exact (congrArg Fin.val (congrFun e 0)).symm
  · rintro ⟨b, r, c, rfl⟩
    refine ⟨Finset.mem_univ _, ?_⟩
    funext a; apply Fin.ext
    match a with
    | ⟨0, _⟩ => rfl

/-- Indices of one feature are equal when their coordinates are. -/
theorem spot_inj (k : Fin 128) (b : Fin 16) (r c : Fin 64) (b' : Fin 16) (r' c' : Fin 64)
    (e : (ix4 b c r k : S16x64x64x128.Idx) = ix4 b' c' r' k) : b = b' ∧ r = r' ∧ c = c' :=
  ⟨congrFun e 0, congrFun e 2, congrFun e 1⟩

/-- A reduction to feature `k` in the blocked order. -/
theorem fold_fiber (op : EReal → EReal → EReal) [Std.Commutative op] [Std.Associative op] (z : EReal) (hz : ∀ a, op z a = a)
    (g : S16x64x64x128.Idx → EReal) (k : Fin 128) :
    (Finset.univ.filter fun i => (reducesTo_S16x64x64x128_S128_d0_1_2).drop i = ix1 k).fold op z g
      = Blocks.blocked op z fun b r c => g (ix4 b c r k) :=
  Blocks.fold_eq_blocked op z hz _ (fun b r c => ix4 b c r k) (fiber k) (spot_inj k) g

/-- The reference's sum. -/
theorem total_eq (k : Fin 128) :
    Host.reduceAdd (filled (F := Ideal) 0x00000000#32 x) (constant S_ .f32 0x00000000#32) reducesTo_S16x64x64x128_S128_d0_1_2 h_S_ (ix1 k)
      = Blocks.total x k := by
  pointwise
  unfold Ideal.hostReduceAdd
  rw [zero_add]
  refine (fold_fiber (fun a b => a + b) 0 zero_add _ k).trans ?_
  simp only [filled_apply, Blocks.total]

/-- The reference's count. -/
theorem count_eq (k : Fin 128) :
    Host.reduceAdd (counted (F := Ideal) x) (constant S_ .f32 0x00000000#32) reducesTo_S16x64x64x128_S128_d0_1_2 h_S_ (ix1 k)
      = ((65536 : ℝ) : EReal) := by
  pointwise
  unfold Ideal.hostReduceAdd
  rw [zero_add]
  refine (fold_fiber (fun a b => a + b) 0 zero_add _ k).trans ?_
  simp only [counted_apply]
  exact Blocks.count_eq

/-- The reference's minimum. -/
theorem least_eq (k : Fin 128) :
    Host.reduce FloatOps.minimumf (filled (F := Ideal) 0x7F800000#32 x) (constant S_ .f32 0x7F800000#32) reducesTo_S16x64x64x128_S128_d0_1_2 h_S_ (ix1 k)
      = Blocks.least x k := by
  pointwise
  rw [Blocks.top_word]
  refine (fold_fiber min ⊤ top_inf_eq _ k).trans ?_
  simp only [filled_apply, Blocks.least]

/-- The reference's maximum. -/
theorem greatest_eq (k : Fin 128) :
    Host.reduce FloatOps.maximumf (filled (F := Ideal) 0xFF800000#32 x) (constant S_ .f32 0xFF800000#32) reducesTo_S16x64x64x128_S128_d0_1_2 h_S_ (ix1 k)
      = Blocks.greatest x k := by
  pointwise
  rw [Blocks.bot_word]
  refine (fold_fiber max ⊥ bot_sup_eq _ k).trans ?_
  simp only [filled_apply, Blocks.greatest]

/-- The products' dimension numbers: the three leading axes contracted, the feature axes kept. -/
abbrev dims : DotDims S16x64x64x128 S16x64x64x128 S128x128 := dot_S16x64x64x128_S16x64x64x128_S128x128_012_012_3_3_n_n

/-- A contraction index from its three coordinates. -/
def contrIdx (b : Fin 16) (r c : Fin 64) : dims.contr.Idx := fun a =>
  match a with
  | ⟨0, _⟩ => b
  | ⟨1, _⟩ => c
  | ⟨2, _⟩ => r

/-- The reference's products. -/
theorem product_eq (k l : Fin 128) :
    Host.dotGeneral dot_S16x64x64x128_S16x64x64x128_S128x128_012_012_3_3_n_n none (filled (F := Ideal) 0x00000000#32 x) (filled (F := Ideal) 0x00000000#32 x) (ix2 k l)
      = Blocks.product x k l := by
  simp only [Host.dotGeneral, Ideal.dotGeneral_apply]
  refine (Blocks.fold_eq_blocked (fun a b : EReal => a + b) 0 zero_add Finset.univ contrIdx ?_ ?_ _).trans ?_
  · intro i
    refine ⟨fun _ => ⟨i ⟨0, by decide⟩, i ⟨2, by decide⟩, i ⟨1, by decide⟩, ?_⟩, fun _ => Finset.mem_univ _⟩
    funext a; apply Fin.ext
    match a with
    | ⟨0, _⟩ => rfl
    | ⟨1, _⟩ => rfl
    | ⟨2, _⟩ => rfl
  · intro b r c b' r' c' e
    exact ⟨congrFun e ⟨0, by decide⟩, congrFun e ⟨2, by decide⟩, congrFun e ⟨1, by decide⟩⟩
  · have hl : ∀ b r c, dims.lhsIdx (ix2 k l) (contrIdx b r c) = ix4 b c r k := fun b r c => by
      funext a; apply Fin.ext
      match a with
      | ⟨0, _⟩ => rfl
      | ⟨1, _⟩ => rfl
      | ⟨2, _⟩ => rfl
      | ⟨3, _⟩ => rfl
    have hr : ∀ b r c, dims.rhsIdx (ix2 k l) (contrIdx b r c) = ix4 b c r l := fun b r c => by
      funext a; apply Fin.ext
      match a with
      | ⟨0, _⟩ => rfl
      | ⟨1, _⟩ => rfl
      | ⟨2, _⟩ => rfl
      | ⟨3, _⟩ => rfl
    simp only [hl, hr, filled_apply, Blocks.product]

end Cert.ReferenceIdeal.Stats

end
-- ==== Proof.lean ====
/-
  The certificate's claim: the frames of the kernel, of its idealization and of the idealized reference, the
  idealization itself, and the equality of all five results of the idealized kernel and the idealized reference. The
  kernel's side is Proof/Value.lean (over Proof/Run.lean, Proof/Body.lean and Proof/Stored.lean), the reference's
  Proof/Ref.lean, the common value Proof/Blocks.lean, and the kernel's frame at the machine's words Proof/Same.lean.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Same
public import proofs.«01_k».proof.Proof.Value
public import proofs.«01_k».proof.Proof.Ref

@[expose] public section

noncomputable section

namespace Cert.Proof

open Idealize.ShloMosaic Idealize.SL.Sem Cert.Kernel

/-- From memories that agree on the argument the two programs end with equal results, all five: each is the statistic
    of the argument that Blocks.lean states. -/
theorem algebraic : Cert.algebraic_KernelIdeal_ReferenceIdeal := by
  intro m g m' g' _ hagree
  refine ⟨_, _, _, _, _, Cert.KernelIdeal.Stats.results m g, θ_run_mono (Cert.ReferenceIdeal.Stats.run m' g') fun r h c => ?_⟩
  obtain ⟨h0, h1, h2, h3, h4, h5⟩ := h c
  have hx : Cert.ReferenceIdeal.Stats.arg m' c = Cert.KernelIdeal.Stats.arg m c := hagree c
  rw [hx] at h0 h1 h2 h3 h4
  refine ⟨h0.trans ?_, h1.trans ?_, h2.trans ?_, h3.trans ?_, h4.trans ?_, h5⟩
  · funext j; idx_vars j; exact Cert.ReferenceIdeal.Stats.total_eq _ _
  · funext j; idx_vars j; exact Cert.ReferenceIdeal.Stats.product_eq _ _ _
  · funext j; idx_vars j; exact Cert.ReferenceIdeal.Stats.count_eq _ _
  · funext j; idx_vars j; exact Cert.ReferenceIdeal.Stats.least_eq _ _
  · funext j; idx_vars j; exact Cert.ReferenceIdeal.Stats.greatest_eq _ _

/-- The certificate's claim: the three frames, the idealization, and the equality of the five results. -/
theorem claim : Cert.Claim := ⟨Cert.Kernel.Gen.facts, Cert.KernelIdeal.Gen.facts, Cert.ReferenceIdeal.Gen.facts,
  Cert.Kernel.Stats.frame, fun m g _ => Cert.KernelIdeal.Stats.frame m g,
  fun m g _ => Cert.ReferenceIdeal.Stats.frame m g, trivial, algebraic⟩

end Cert.Proof

end
